-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x4096x4096 : Shape := ⟨3, ![3, 4096, 4096]⟩
abbrev S3x4096x1 : Shape := ⟨3, ![3, 4096, 1]⟩
abbrev S11008x4096 : Shape := ⟨2, ![11008, 4096]⟩
abbrev S11008 : Shape := ⟨1, ![11008]⟩
abbrev S12288x4096 : Shape := ⟨2, ![12288, 4096]⟩
abbrev S12288x1 : Shape := ⟨2, ![12288, 1]⟩
abbrev S1x11008 : Shape := ⟨2, ![1, 11008]⟩
abbrev S12288x11008 : Shape := ⟨2, ![12288, 11008]⟩
abbrev S2048x4096 : Shape := ⟨2, ![2048, 4096]⟩
abbrev S2048x1 : Shape := ⟨2, ![2048, 1]⟩
abbrev S1x2048 : Shape := ⟨2, ![1, 2048]⟩
abbrev S2048x2048 : Shape := ⟨2, ![2048, 2048]⟩
abbrev S1024x4096 : Shape := ⟨2, ![1024, 4096]⟩
abbrev S512x4096 : Shape := ⟨2, ![512, 4096]⟩
abbrev S1024x512 : Shape := ⟨2, ![1024, 512]⟩
abbrev S1024x1 : Shape := ⟨2, ![1024, 1]⟩
abbrev S1x512 : Shape := ⟨2, ![1, 512]⟩
abbrev S256x4096 : Shape := ⟨2, ![256, 4096]⟩
abbrev S1024x256 : Shape := ⟨2, ![1024, 256]⟩
abbrev S1x256 : Shape := ⟨2, ![1, 256]⟩
abbrev S3x4096x11008 : Shape := ⟨3, ![3, 4096, 11008]⟩

abbrev nBuf : Space → Nat
  | .hbm => 9
  | .vmem => 10
  | .smem => 0
  | _ => 0

abbrev bufTy : (tb : Table) → Fin (tcTables nBuf tb) → BufTy
  | .hbm, ⟨0, _⟩ => ⟨S3x4096x4096, .fp8e4m3⟩
  | .hbm, ⟨1, _⟩ => ⟨S3x4096x1, .f32⟩
  | .hbm, ⟨2, _⟩ => ⟨S11008x4096, .fp8e4m3⟩
  | .hbm, ⟨3, _⟩ => ⟨S11008, .f32⟩
  | .hbm, ⟨4, _⟩ => ⟨S12288x4096, .fp8e4m3⟩
  | .hbm, ⟨5, _⟩ => ⟨S12288x1, .f32⟩
  | .hbm, ⟨6, _⟩ => ⟨S1x11008, .f32⟩
  | .hbm, ⟨7, _⟩ => ⟨S12288x11008, .bf16⟩
  | .hbm, ⟨8, _⟩ => ⟨S3x4096x11008, .bf16⟩
  | .local _ .vmem, ⟨0, _⟩ => ⟨S2048x4096, .fp8e4m3⟩
  | .local _ .vmem, ⟨1, _⟩ => ⟨S2048x4096, .fp8e4m3⟩
  | .local _ .vmem, ⟨2, _⟩ => ⟨S2048x1, .f32⟩
  | .local _ .vmem, ⟨3, _⟩ => ⟨S2048x1, .f32⟩
  | .local _ .vmem, ⟨4, _⟩ => ⟨S2048x4096, .fp8e4m3⟩
  | .local _ .vmem, ⟨5, _⟩ => ⟨S2048x4096, .fp8e4m3⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S2048x2048, .bf16⟩
  | _, _ => ⟨S3x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 6], ![false, false]⟩

def k0_cond1 (i : grid0.Coords) : BitVec 1 :=
  let arg1 : BitVec 32 := BitVec.ofNat 32 (i 1).val
  let c5_i32 : BitVec 32 := 5#32
  let v0 : BitVec 1 := Scalar.cmpi .slt arg1 c5_i32
  let v1 : BitVec 32 := Scalar.extui v0
  let c0_i32 : BitVec 32 := 0#32
  let v2 : BitVec 1 := Scalar.cmpi .ne v1 c0_i32
  v2

def k0_cond2 (i : grid0.Coords) : BitVec 1 :=
  let arg1 : BitVec 32 := BitVec.ofNat 32 (i 1).val
  let c5_i32_0 : BitVec 32 := 5#32
  let v3 : BitVec 1 := Scalar.cmpi .eq arg1 c5_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S3x4096x4096 : Shape := ⟨3, ![3, 4096, 4096]⟩
abbrev S3x4096x1 : Shape := ⟨3, ![3, 4096, 1]⟩
abbrev S11008x4096 : Shape := ⟨2, ![11008, 4096]⟩
abbrev S11008 : Shape := ⟨1, ![11008]⟩
abbrev S3x4096x11008 : Shape := ⟨3, ![3, 4096, 11008]⟩
abbrev S1x1x11008 : Shape := ⟨3, ![1, 1, 11008]⟩

abbrev nBuf : Space → Nat
  | .hbm => 5
  | .vmem => 5
  | .smem => 0
  | _ => 0

abbrev bufTy : (tb : Table) → Fin (tcTables nBuf tb) → BufTy
  | .hbm, ⟨0, _⟩ => ⟨S3x4096x4096, .fp8e4m3⟩
  | .hbm, ⟨1, _⟩ => ⟨S3x4096x1, .f32⟩
  | .hbm, ⟨2, _⟩ => ⟨S11008x4096, .fp8e4m3⟩
  | .hbm, ⟨3, _⟩ => ⟨S11008, .f32⟩
  | .hbm, ⟨4, _⟩ => ⟨S3x4096x11008, .bf16⟩
  | .local _ .vmem, ⟨0, _⟩ => ⟨S3x4096x4096, .fp8e4m3⟩
  | .local _ .vmem, ⟨1, _⟩ => ⟨S3x4096x1, .f32⟩
  | .local _ .vmem, ⟨2, _⟩ => ⟨S11008x4096, .fp8e4m3⟩
  | .local _ .vmem, ⟨3, _⟩ => ⟨S11008, .f32⟩
  | .local _ .vmem, ⟨4, _⟩ => ⟨S3x4096x11008, .bf16⟩
  | _, _ => ⟨S3x4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S3x4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11008x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11008 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x4096x11008 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Body.lean ====
/- What one call of the kernel's body computes: the body runs on any staging buffers, and the output buffer ends at
   the list of its chunk stores (`main_pieces` where the output block lies inside the array, `tail_pieces` at the last
   block column, of which only the first 768 lanes lie inside). -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The chunks the body reads and writes -/

abbrev rx0 : Rect S2048x4096 := Rect.unit (s := S2048x4096) ![0, 0] S1024x4096.size inb_S2048x4096_S1024x4096_0_0
abbrev rs0 : Rect S2048x1 := Rect.unit (s := S2048x1) ![0, 0] S1024x1.size inb_S2048x1_S1024x1_0_0
abbrev rx1024 : Rect S2048x4096 := Rect.unit (s := S2048x4096) ![1024, 0] S1024x4096.size inb_S2048x4096_S1024x4096_1024_0
abbrev rs1024 : Rect S2048x1 := Rect.unit (s := S2048x1) ![1024, 0] S1024x1.size inb_S2048x1_S1024x1_1024_0
abbrev rw0 : Rect S2048x4096 := Rect.unit (s := S2048x4096) ![0, 0] S512x4096.size inb_S2048x4096_S512x4096_0_0
abbrev rv0 : Rect S1x2048 := Rect.unit (s := S1x2048) ![0, 0] S1x512.size inb_S1x2048_S1x512_0_0
abbrev rw512 : Rect S2048x4096 := Rect.unit (s := S2048x4096) ![512, 0] S512x4096.size inb_S2048x4096_S512x4096_512_0
abbrev rv512 : Rect S1x2048 := Rect.unit (s := S1x2048) ![0, 512] S1x512.size inb_S1x2048_S1x512_0_512
abbrev rw1024 : Rect S2048x4096 := Rect.unit (s := S2048x4096) ![1024, 0] S512x4096.size inb_S2048x4096_S512x4096_1024_0
abbrev rv1024 : Rect S1x2048 := Rect.unit (s := S1x2048) ![0, 1024] S1x512.size inb_S1x2048_S1x512_0_1024
abbrev rw1536 : Rect S2048x4096 := Rect.unit (s := S2048x4096) ![1536, 0] S512x4096.size inb_S2048x4096_S512x4096_1536_0
abbrev rv1536 : Rect S1x2048 := Rect.unit (s := S1x2048) ![0, 1536] S1x512.size inb_S1x2048_S1x512_0_1536
abbrev rw512t : Rect S2048x4096 := Rect.unit (s := S2048x4096) ![512, 0] S256x4096.size inb_S2048x4096_S256x4096_512_0
abbrev rv512t : Rect S1x2048 := Rect.unit (s := S1x2048) ![0, 512] S1x256.size inb_S1x2048_S1x256_0_512
abbrev ry0_0 : Rect S2048x2048 := Rect.unit (s := S2048x2048) ![0, 0] S1024x512.size inb_S2048x2048_S1024x512_0_0
abbrev ry0_512 : Rect S2048x2048 := Rect.unit (s := S2048x2048) ![0, 512] S1024x512.size inb_S2048x2048_S1024x512_0_512
abbrev ry0_1024 : Rect S2048x2048 := Rect.unit (s := S2048x2048) ![0, 1024] S1024x512.size inb_S2048x2048_S1024x512_0_1024
abbrev ry0_1536 : Rect S2048x2048 := Rect.unit (s := S2048x2048) ![0, 1536] S1024x512.size inb_S2048x2048_S1024x512_0_1536
abbrev ry0_512t : Rect S2048x2048 := Rect.unit (s := S2048x2048) ![0, 512] S1024x256.size inb_S2048x2048_S1024x256_0_512
abbrev ry1024_0 : Rect S2048x2048 := Rect.unit (s := S2048x2048) ![1024, 0] S1024x512.size inb_S2048x2048_S1024x512_1024_0
abbrev ry1024_512 : Rect S2048x2048 := Rect.unit (s := S2048x2048) ![1024, 512] S1024x512.size inb_S2048x2048_S1024x512_1024_512
abbrev ry1024_1024 : Rect S2048x2048 := Rect.unit (s := S2048x2048) ![1024, 1024] S1024x512.size inb_S2048x2048_S1024x512_1024_1024
abbrev ry1024_1536 : Rect S2048x2048 := Rect.unit (s := S2048x2048) ![1024, 1536] S1024x512.size inb_S2048x2048_S1024x512_1024_1536
abbrev ry1024_512t : Rect S2048x2048 := Rect.unit (s := S2048x2048) ![1024, 512] S1024x256.size inb_S2048x2048_S1024x256_1024_512

/-- One 1024×512 chunk of the output: the rows `r` of the left operand against 512 rows of the right one. -/
abbrev chunk (x : Vec F S1024x4096 .fp8e4m3) (w : Vec F S512x4096 .fp8e4m3) (s : Vec F S1024x1 .f32) (v : Vec F S1x512 .f32) :
    Vec F S1024x512 .bf16 := k0_pay1 x w s v

/-- The 1024×256 chunk that ends the last block column. -/
abbrev chunkT (x : Vec F S1024x4096 .fp8e4m3) (w : Vec F S256x4096 .fp8e4m3) (s : Vec F S1024x1 .f32) (v : Vec F S1x256 .f32) :
    Vec F S1024x256 .bf16 := k0_pay3 x w s v

/-- The eight stores of the body at a block inside the array, last first. -/
def main_pieces (x : Vec F S2048x4096 .fp8e4m3) (s : Vec F S2048x1 .f32) (w : Vec F S2048x4096 .fp8e4m3) (v : Vec F S1x2048 .f32) :
    List (View.Piece (Elt F) S2048x2048 .bf16) :=
  [⟨ry1024_1536, chunk (View.ld x rx1024) (View.ld w rw1536) (View.ld s rs1024) (View.ld v rv1536)⟩,
   ⟨ry1024_1024, chunk (View.ld x rx1024) (View.ld w rw1024) (View.ld s rs1024) (View.ld v rv1024)⟩,
   ⟨ry1024_512, chunk (View.ld x rx1024) (View.ld w rw512) (View.ld s rs1024) (View.ld v rv512)⟩,
   ⟨ry1024_0, chunk (View.ld x rx1024) (View.ld w rw0) (View.ld s rs1024) (View.ld v rv0)⟩,
   ⟨ry0_1536, chunk (View.ld x rx0) (View.ld w rw1536) (View.ld s rs0) (View.ld v rv1536)⟩,
   ⟨ry0_1024, chunk (View.ld x rx0) (View.ld w rw1024) (View.ld s rs0) (View.ld v rv1024)⟩,
   ⟨ry0_512, chunk (View.ld x rx0) (View.ld w rw512) (View.ld s rs0) (View.ld v rv512)⟩,
   ⟨ry0_0, chunk (View.ld x rx0) (View.ld w rw0) (View.ld s rs0) (View.ld v rv0)⟩]

/-- The four stores of the body at the last block column, last first. -/
def tail_pieces (x : Vec F S2048x4096 .fp8e4m3) (s : Vec F S2048x1 .f32) (w : Vec F S2048x4096 .fp8e4m3) (v : Vec F S1x2048 .f32) :
    List (View.Piece (Elt F) S2048x2048 .bf16) :=
  [⟨ry1024_512t, chunkT (View.ld x rx1024) (View.ld w rw512t) (View.ld s rs1024) (View.ld v rv512t)⟩,
   ⟨ry1024_0, chunk (View.ld x rx1024) (View.ld w rw0) (View.ld s rs1024) (View.ld v rv0)⟩,
   ⟨ry0_512t, chunkT (View.ld x rx0) (View.ld w rw512t) (View.ld s rs0) (View.ld v rv512t)⟩,
   ⟨ry0_0, chunk (View.ld x rx0) (View.ld w rw0) (View.ld s rs0) (View.ld v rv0)⟩]

set_option maxHeartbeats 4000000 in
/-- The body at a block column other than the last: the inputs' buffers stay, and the output's buffer reads the eight
    stores' pieces wherever one of them lies. -/
theorem sound_main (c : Dev nD) (E : Set ℕ) (i : grid0.Coords) (h1 : k0_cond1 i = 1#1) (h2 : ¬ k0_cond2 i = 1#1)
    (arg2 : Memref sig .tc .vmem S2048x4096 .fp8e4m3) (harg2 : arg2.IsWhole) (arg3 : Memref sig .tc .vmem S2048x1 .f32) (harg3 : arg3.IsWhole) (arg4 : Memref sig .tc .vmem S2048x4096 .fp8e4m3) (harg4 : arg4.IsWhole) (arg5 : Memref sig .tc .vmem S1x2048 .f32) (harg5 : arg5.IsWhole) (arg6 : Memref sig .tc .vmem S2048x2048 .bf16) (harg6 : arg6.IsWhole)
    (x : Vec F S2048x4096 .fp8e4m3) (s : Vec F S2048x1 .f32) (w : Vec F S2048x4096 .fp8e4m3) (v : Vec F S1x2048 .f32) (K : PUnit → sProp 𝕄) :
    iprop(owns (c : Thread nD τ) arg2 fullShare x ∗ owns (c : Thread nD τ) arg3 fullShare s ∗ owns (c : Thread nD τ) arg4 fullShare w ∗ owns (c : Thread nD τ) arg5 fullShare v ∗ (∃ d, owns (c : Thread nD τ) arg6 fullShare d)
        ∗ (iprop(owns (c : Thread nD τ) arg2 fullShare x ∗ owns (c : Thread nD τ) arg3 fullShare s ∗ owns (c : Thread nD τ) arg4 fullShare w ∗ owns (c : Thread nD τ) arg5 fullShare v ∗ (∃ y, ⌜∀ j, (∃ p ∈ main_pieces x s w v, j ∈ p.1.set) → y j = View.canon (main_pieces x s w v) j⌝ ∗ owns (c : Thread nD τ) arg6 fullShare y)) -∗ K ⟨⟩))
      ⊢ wp frame (wpE (defs₀ (F := F)) Variants.none c none) E (cc0__linear_body i arg2 harg2 arg3 harg3 arg4 harg4 arg5 harg5 arg6 harg6) K := by
  simp only [cc0__linear_body_eq_skeleton]; unfold cc0__linear_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap
  · iexists _; isplitr
    swap; · iexact H4
    ipureintro; rfl
  ipureintro
  exact fun j hj => View.read_writes_apply_eq_canon _ _ j (main_pieces _ _ _ _) hj

set_option maxHeartbeats 4000000 in
/-- The body at the last block column: the inputs' buffers stay, and the output's buffer reads the four stores' pieces
    wherever one of them lies. -/
theorem sound_tail (c : Dev nD) (E : Set ℕ) (i : grid0.Coords) (h1 : ¬ k0_cond1 i = 1#1) (h2 : k0_cond2 i = 1#1)
    (arg2 : Memref sig .tc .vmem S2048x4096 .fp8e4m3) (harg2 : arg2.IsWhole) (arg3 : Memref sig .tc .vmem S2048x1 .f32) (harg3 : arg3.IsWhole) (arg4 : Memref sig .tc .vmem S2048x4096 .fp8e4m3) (harg4 : arg4.IsWhole) (arg5 : Memref sig .tc .vmem S1x2048 .f32) (harg5 : arg5.IsWhole) (arg6 : Memref sig .tc .vmem S2048x2048 .bf16) (harg6 : arg6.IsWhole)
    (x : Vec F S2048x4096 .fp8e4m3) (s : Vec F S2048x1 .f32) (w : Vec F S2048x4096 .fp8e4m3) (v : Vec F S1x2048 .f32) (K : PUnit → sProp 𝕄) :
    iprop(owns (c : Thread nD τ) arg2 fullShare x ∗ owns (c : Thread nD τ) arg3 fullShare s ∗ owns (c : Thread nD τ) arg4 fullShare w ∗ owns (c : Thread nD τ) arg5 fullShare v ∗ (∃ d, owns (c : Thread nD τ) arg6 fullShare d)
        ∗ (iprop(owns (c : Thread nD τ) arg2 fullShare x ∗ owns (c : Thread nD τ) arg3 fullShare s ∗ owns (c : Thread nD τ) arg4 fullShare w ∗ owns (c : Thread nD τ) arg5 fullShare v ∗ (∃ y, ⌜∀ j, (∃ p ∈ tail_pieces x s w v, j ∈ p.1.set) → y j = View.canon (tail_pieces x s w v) j⌝ ∗ owns (c : Thread nD τ) arg6 fullShare y)) -∗ K ⟨⟩))
      ⊢ wp frame (wpE (defs₀ (F := F)) Variants.none c none) E (cc0__linear_body i arg2 harg2 arg3 harg3 arg4 harg4 arg5 harg5 arg6 harg6) K := by
  simp only [cc0__linear_body_eq_skeleton]; unfold cc0__linear_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap
  · iexists _; isplitr
    swap; · iexact H4
    ipureintro; rfl
  ipureintro
  exact fun j hj => View.read_writes_apply_eq_canon _ _ j (tail_pieces _ _ _ _) hj

end Cert.KernelIdeal.Hand

end
-- ==== Proof.Run.lean ====
/- The pipeline's proof data and its run: what every staging buffer holds before and after the body at each grid point,
   the body obligation from the two body triples of `Body`, and the launch (`run_quiescent`), from which the frame. -/
module

public import proofs.«01_k».proof.Proof.Body
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid -/

/-- The second grid coordinate decides the body's branch: the last block column, or another. -/
theorem cond1_iff : ∀ t : Fin grid0.N, k0_cond1 (grid0.coords t) = 1#1 ↔ (grid0.coords t 1).val < 5 := by decide +kernel
theorem cond2_iff : ∀ t : Fin grid0.N, k0_cond2 (grid0.coords t) = 1#1 ↔ ¬ (grid0.coords t 1).val < 5 := by decide +kernel

/-- The rows of the right operand's block that lie inside the array: all 2048, or the last column's 768. -/
theorem xsize2 : ∀ t : Fin grid0.N, win0_2.xsize (grid0.coords t) 0 = (if (grid0.coords t 1).val < 5 then 2048 else 768)
    ∧ win0_2.xsize (grid0.coords t) 1 = 4096 := by decide +kernel
/-- The lanes of its scales' block that lie inside the array. -/
theorem xsize3 : ∀ t : Fin grid0.N, win0_3.xsize (grid0.coords t) 0 = 1
    ∧ win0_3.xsize (grid0.coords t) 1 = (if (grid0.coords t 1).val < 5 then 2048 else 768) := by decide +kernel
/-- The part of the output's block that lies inside the array. -/
theorem xsize4 : ∀ t : Fin grid0.N, win0_4.xsize (grid0.coords t) 0 = 2048
    ∧ win0_4.xsize (grid0.coords t) 1 = (if (grid0.coords t 1).val < 5 then 2048 else 768) := by decide +kernel

/-- The output window is never idle: one of the two branches is taken. -/
theorem idle4 : ∀ t : Fin grid0.N, idle0 4 (grid0.coords t) = false := by decide +kernel

/-! ## What the buffers hold -/

/-- The right operand's staging buffer: its block's rows inside the array, and a filler that nothing reads. -/
def wbuf (c : Dev nD) (t : Fin cfg0.N) : Vec F S2048x4096 .fp8e4m3 :=
  win0_2.fill (grid0.coords t) (fun _ => Scalar.ofBits .fp8e4m3 0#8) (iblk m c 2 t)
/-- Its scales' staging buffer likewise. -/
def vbuf (c : Dev nD) (t : Fin cfg0.N) : Vec F S1x2048 .f32 :=
  win0_3.fill (grid0.coords t) (fun _ => Scalar.ofBits .f32 0#32) (iblk m c 3 t)

/-- The stores of the body at grid coordinates `i`. -/
def pieces (i : grid0.Coords) (x : Vec F S2048x4096 .fp8e4m3) (s : Vec F S2048x1 .f32) (w : Vec F S2048x4096 .fp8e4m3)
    (v : Vec F S1x2048 .f32) : List (View.Piece (Elt F) S2048x2048 .bf16) :=
  if k0_cond1 i = 1#1 then main_pieces x s w v else tail_pieces x s w v

/-- The output's staging buffer after the body: its stores. -/
def ybuf (c : Dev nD) (t : Fin cfg0.N) : Vec F S2048x2048 .bf16 :=
  View.canon (pieces (grid0.coords t) (iblk m c 0 t) (iblk m c 1 t) (wbuf m c t) (vbuf m c t))

/-- A filled block does not depend on the filler where the transfer moves. -/
theorem fill_congr {G : Pipeline.Grid} (W : Window sig G) {α : Type} (i : G.Coords) (d d' : W.block.Idx → α) (g : (W.xblock i).Idx → α)
    (j : W.block.Idx) (h : ∀ a, (j a).val < W.xsize i a) : W.fill i d g j = W.fill i d' g j := by
  unfold Window.fill
  rw [dif_pos ((W.moved_iff i j).mpr h), dif_pos ((W.moved_iff i j).mpr h)]

/-- A row of the right operand's buffer that lies inside the array reads the array, whatever fills the rest. -/
theorem w_congr (c : Dev nD) (t : Fin cfg0.N) (d : win0_2.block.Idx → Elt F .fp8e4m3) (j : S2048x4096.Idx)
    (h : (grid0.coords t 1).val < 5 ∨ (j 0).val < 768) :
    win0_2.fill (grid0.coords t) d (iblk m c 2 t) j = wbuf m c t j := by
  refine fill_congr win0_2 _ _ _ _ j fun a => ?_
  match a with
  | ⟨0, _⟩ =>
    refine lt_of_lt_of_eq ?_ (xsize2 t).1.symm
    have h0 : (j 0).val < 2048 := (j 0).isLt
    change (j 0).val < _
    split <;> omega
  | ⟨1, _⟩ => exact lt_of_lt_of_eq (j 1).isLt (xsize2 t).2.symm

/-- A lane of its scales' buffer likewise. -/
theorem v_congr (c : Dev nD) (t : Fin cfg0.N) (d : win0_3.block.Idx → Elt F .f32) (j : S1x2048.Idx)
    (h : (grid0.coords t 1).val < 5 ∨ (j 1).val < 768) :
    win0_3.fill (grid0.coords t) d (iblk m c 3 t) j = vbuf m c t j := by
  refine fill_congr win0_3 _ _ _ _ j fun a => ?_
  match a with
  | ⟨0, _⟩ => exact lt_of_lt_of_eq (j 0).isLt (xsize3 t).1.symm
  | ⟨1, _⟩ =>
    refine lt_of_lt_of_eq ?_ (xsize3 t).2.symm
    have h0 : (j 1).val < 2048 := (j 1).isLt
    change (j 1).val < _
    split <;> omega

/-- The stores of the last block column read 768 rows of the right operand and 768 lanes of its scales only. -/
theorem tail_congr (x : Vec F S2048x4096 .fp8e4m3) (s : Vec F S2048x1 .f32) (w w' : Vec F S2048x4096 .fp8e4m3)
    (v v' : Vec F S1x2048 .f32) (hw : ∀ j : S2048x4096.Idx, (j 0).val < 768 → w j = w' j)
    (hv : ∀ j : S1x2048.Idx, (j 1).val < 768 → v j = v' j) : tail_pieces x s w v = tail_pieces x s w' v' := by
  have e1 : View.ld w rw0 = View.ld w' rw0 := funext fun j => hw _ (by
    have := (j 0).isLt; change (0 : ℕ) + 1 * (j 0).val < 768; change (j 0).val < 512 at this; omega)
  have e2 : View.ld w rw512t = View.ld w' rw512t := funext fun j => hw _ (by
    have := (j 0).isLt; change (512 : ℕ) + 1 * (j 0).val < 768; change (j 0).val < 256 at this; omega)
  have e3 : View.ld v rv0 = View.ld v' rv0 := funext fun j => hv _ (by
    have := (j 1).isLt; change (0 : ℕ) + 1 * (j 1).val < 768; change (j 1).val < 512 at this; omega)
  have e4 : View.ld v rv512t = View.ld v' rv512t := funext fun j => hv _ (by
    have := (j 1).isLt; change (512 : ℕ) + 1 * (j 1).val < 768; change (j 1).val < 256 at this; omega)
  unfold tail_pieces
  rw [e1, e2, e3, e4]

/-- So the stores at any point do not depend on what fills the buffers past the arrays' ends. -/
theorem pieces_fill (c : Dev nD) (t : Fin cfg0.N) (x : Vec F S2048x4096 .fp8e4m3) (s : Vec F S2048x1 .f32)
    (d2 : win0_2.block.Idx → Elt F .fp8e4m3) (d3 : win0_3.block.Idx → Elt F .f32) :
    pieces (grid0.coords t) x s (win0_2.fill (grid0.coords t) d2 (iblk m c 2 t)) (win0_3.fill (grid0.coords t) d3 (iblk m c 3 t))
      = pieces (grid0.coords t) x s (wbuf m c t) (vbuf m c t) := by
  unfold pieces
  split
  · rename_i h
    have h5 := (cond1_iff t).mp h
    congr 1
    · exact funext fun j => w_congr m c t d2 j (.inl h5)
    · exact funext fun j => v_congr m c t d3 j (.inl h5)
  · exact tail_congr _ _ _ _ _ _ (fun j h => w_congr m c t d2 j (.inr h)) (fun j h => v_congr m c t d3 j (.inr h))

/-- The eight stores cover the block. -/
theorem cover_main (x : Vec F S2048x4096 .fp8e4m3) (s : Vec F S2048x1 .f32) (w : Vec F S2048x4096 .fp8e4m3)
    (v : Vec F S1x2048 .f32) (j : S2048x2048.Idx) : ∃ p ∈ main_pieces x s w v, j ∈ p.1.set :=
  View.cover_of_tiled (main_pieces x s w v) ![1024, 512] (by rfl) j

/-- The four stores cover the first 768 columns. -/
theorem cover_tail (x : Vec F S2048x4096 .fp8e4m3) (s : Vec F S2048x1 .f32) (w : Vec F S2048x4096 .fp8e4m3)
    (v : Vec F S1x2048 .f32) (j : S2048x2048.Idx) (h : (j 1).val < 768) : ∃ p ∈ tail_pieces x s w v, j ∈ p.1.set := by
  have h0 : (j 0).val < 2048 := (j 0).isLt
  unfold tail_pieces
  by_cases hr : (j 0).val < 1024 <;> by_cases hc : (j 1).val < 512
  · refine ⟨_, .tail _ (.tail _ (.tail _ (.head _))), show j ∈ ry0_0.set from ?_⟩
    rw [Rect.mem_set_unit]
    intro a
    match a with
    | ⟨0, _⟩ => exact ⟨by change 0 ≤ (j 0).val; omega, by change (j 0).val < 0 + 1024; omega⟩
    | ⟨1, _⟩ => exact ⟨by change 0 ≤ (j 1).val; omega, by change (j 1).val < 0 + 512; omega⟩
  · refine ⟨_, .tail _ (.tail _ (.head _)), show j ∈ ry0_512t.set from ?_⟩
    rw [Rect.mem_set_unit]
    intro a
    match a with
    | ⟨0, _⟩ => exact ⟨by change 0 ≤ (j 0).val; omega, by change (j 0).val < 0 + 1024; omega⟩
    | ⟨1, _⟩ => exact ⟨by change 512 ≤ (j 1).val; omega, by change (j 1).val < 512 + 256; omega⟩
  · refine ⟨_, .tail _ (.head _), show j ∈ ry1024_0.set from ?_⟩
    rw [Rect.mem_set_unit]
    intro a
    match a with
    | ⟨0, _⟩ => exact ⟨by change 1024 ≤ (j 0).val; omega, by change (j 0).val < 1024 + 1024; omega⟩
    | ⟨1, _⟩ => exact ⟨by change 0 ≤ (j 1).val; omega, by change (j 1).val < 0 + 512; omega⟩
  · refine ⟨_, .head _, show j ∈ ry1024_512t.set from ?_⟩
    rw [Rect.mem_set_unit]
    intro a
    match a with
    | ⟨0, _⟩ => exact ⟨by change 1024 ≤ (j 0).val; omega, by change (j 0).val < 1024 + 1024; omega⟩
    | ⟨1, _⟩ => exact ⟨by change 512 ≤ (j 1).val; omega, by change (j 1).val < 512 + 256; omega⟩

/-- Every index of the output block that lies inside the array is in one of the stores. -/
theorem cover_moved (t : Fin cfg0.N) (x : Vec F S2048x4096 .fp8e4m3) (s : Vec F S2048x1 .f32) (w : Vec F S2048x4096 .fp8e4m3)
    (v : Vec F S1x2048 .f32) (j : (win0_4.xblock (grid0.coords t)).Idx) :
    ∃ p ∈ pieces (grid0.coords t) x s w v, (win0_4.xinj (grid0.coords t) j : S2048x2048.Idx) ∈ p.1.set := by
  unfold pieces
  split
  · exact cover_main _ _ _ _ _
  · rename_i h
    refine cover_tail _ _ _ _ _ ?_
    have h1 := lt_of_lt_of_eq (j 1).isLt ((xsize4 t).2.trans (if_neg fun h5 => h ((cond1_iff t).mpr h5)))
    exact h1

/-! ## The proof data -/

/-- The proof data of the one pipeline on core `c`: the arrays as the region finds them; after the body each input's
    buffer at its block and the output's at its stores; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => wbuf m c t
    | ⟨3, _⟩ => vbuf m c t
    | ⟨4, _⟩ => ybuf m c t
  Φ _ := Pipeline.ΦA spec0 c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = wbuf m c t := by dsimp only [dats]
theorem after0_3 (c : Dev nD) (t : Fin cfg0.N) : (dats m 0 c).after 3 t = vbuf m c t := by dsimp only [dats]
theorem after0_4 (c : Dev nD) (t : Fin cfg0.N) : (dats m 0 c).after 4 t = ybuf m c t := by dsimp only [dats]

/-- What the body finds: the left operand's and its scales' blocks, -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
/-- the right operand's block and its scales', fetched at every point, with anything past the array's end. -/
theorem before0_2 (c : Dev nD) (t : Fin cfg0.N) (d) :
    (dats m 0 c).before 2 t d = win0_2.fill (grid0.coords t) d (iblk m c 2 t) := by
  unfold Dat.before; rw [if_pos (fetch0_2 t)]; rfl
theorem before0_3 (c : Dev nD) (t : Fin cfg0.N) (d) :
    (dats m 0 c).before 3 t d = win0_3.fill (grid0.coords t) d (iblk m c 3 t) := by
  unfold Dat.before; rw [if_pos (fetch0_3 t)]; rfl

/-! ## The body obligation -/

/-- The body at any point, on the point's staging buffers: the inputs' stay, and the output's reads its stores wherever
    one of them lies. -/
theorem sound_at (c : Dev nD) (t : Fin cfg0.N) (x : Vec F S2048x4096 .fp8e4m3) (s : Vec F S2048x1 .f32)
    (w : Vec F S2048x4096 .fp8e4m3) (v : Vec F S1x2048 .f32) (K : PUnit → sProp 𝕄) :
    iprop(owns (c : Thread nD τ) (st0_0 t) fullShare x ∗ owns (c : Thread nD τ) (st0_1 t) fullShare s ∗ owns (c : Thread nD τ) (st0_2 t) fullShare w ∗ owns (c : Thread nD τ) (st0_3 t) fullShare v ∗ (∃ d, owns (c : Thread nD τ) (st0_4 t) fullShare d)
        ∗ (iprop(owns (c : Thread nD τ) (st0_0 t) fullShare x ∗ owns (c : Thread nD τ) (st0_1 t) fullShare s ∗ owns (c : Thread nD τ) (st0_2 t) fullShare w ∗ owns (c : Thread nD τ) (st0_3 t) fullShare v ∗ (∃ y, ⌜∀ j, (∃ p ∈ pieces (grid0.coords t) x s w v, j ∈ p.1.set) → y j = View.canon (pieces (grid0.coords t) x s w v) j⌝ ∗ owns (c : Thread nD τ) (st0_4 t) fullShare y)) -∗ K ⟨⟩))
      ⊢ wp frame (wpE (defs₀ (F := F)) Variants.none c none) Set.univ (bodyAt0 t) K := by
  unfold pieces bodyAt0
  split
  · rename_i h
    exact sound_main c Set.univ _ h (fun h2 => (cond2_iff t).mp h2 ((cond1_iff t).mp h)) _ _ _ _ _ _ _ _ _ _ x s w v K
  · rename_i h
    exact sound_tail c Set.univ _ h ((cond2_iff t).mpr fun h5 => h ((cond1_iff t).mpr h5)) _ _ _ _ _ _ _ _ _ _ x s w v K

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The library's body obligation: the clipped windows' buffers stated on their parts inside the arrays. -/
theorem body_obligation (c : Dev nD) : BodyObligationLoose (dats (F := F) m 0 c) (defs₀ (F := F)) Variants.none () Set.univ := fun t => by
  rw [bigSep_W0, bigSep_W0, defs₀_row]
  have hidle : idle0 4 (grid0.coords t) = false := idle4 t
  simp only [hidle]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before0_0 m c t d0, before0_1 m c t d1, before0_2 m c t d2, before0_3 m c t d3]
  iapply (sound_at (F := F) c t (iblk m c 0 t) (iblk m c 1 t) (win0_2.fill (grid0.coords t) d2 (iblk m c 2 t))
    (win0_3.fill (grid0.coords t) d3 (iblk m c 3 t)) _)
  isplitl [H0]; · iexact H0
  isplitl [H1]; · iexact H1
  isplitl [H2]; · iexact H2
  isplitl [H3]; · iexact H3
  isplitl [H4]; · iexists _; iexact H4
  iintro ⟨H0, H1, H2, H3, ⟨%y, %hy, H4⟩⟩
  rw [pieces_fill m c t _ _ d2 d3] at hy
  have hw : win0_2.cut (grid0.coords t) (wbuf m c t) = iblk m c 2 t := win0_2.cut_fill _ _ _
  have hv : win0_3.cut (grid0.coords t) (vbuf m c t) = iblk m c 3 t := win0_3.cut_fill _ _ _
  have hyc : win0_4.cut (grid0.coords t) y = win0_4.cut (grid0.coords t) (ybuf m c t) :=
    funext fun j => hy _ (cover_moved t _ _ _ _ j)
  isplitl [HΦ]; · iexact HΦ
  isplitl [Ho]; · iexact Ho
  isplitl [H0]
  · change _ ⊢ owns (c : Thread nD τ) (st0_0 t) fullShare ((dats m 0 c).after 0 t)
    rw [after0_0]; try iexact H0
  isplitl [H1]
  · change _ ⊢ owns (c : Thread nD τ) (st0_1 t) fullShare ((dats m 0 c).after 1 t)
    rw [after0_1]; try iexact H1
  isplitl [H2]
  · iexists d2
    change _ ⊢ owns (c : Thread nD τ) (st0_2 t) fullShare (win0_2.fill (grid0.coords t) d2 (win0_2.cut (grid0.coords t) (wbuf m c t)))
    rw [hw]; try iexact H2
  isplitl [H3]
  · iexists d3
    change _ ⊢ owns (c : Thread nD τ) (st0_3 t) fullShare (win0_3.fill (grid0.coords t) d3 (win0_3.cut (grid0.coords t) (vbuf m c t)))
    rw [hv]; try iexact H3
  · iexists y
    change _ ⊢ owns (c : Thread nD τ) (st0_4 t) fullShare (win0_4.fill (grid0.coords t) y (win0_4.cut (grid0.coords t) (ybuf m c t)))
    rw [← hyc, win0_4.fill_cut]; try iexact H4

/-! ## The run and the frame -/

set_option backward.isDefEq.respectTransparency.types false in
set_option maxHeartbeats 800000 in
/-- The launch: every fair execution terminates with every array at what the proof data says, every other buffer as the
    host lines leave it, and every semaphore counter at zero. -/
theorem run_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Hand

end
-- ==== Proof.Same.lean ====
/- The kernel and its idealization are the same program, printed twice, so what `Run` shows at any float values holds of
   the kernel at the machine's: its frame. -/
module

public import proofs.«01_k».proof.Proof.Run
public import proofs.«01_k».proof.Defs
public import proofs.«01_k».proof.Proof.Gen.Kernel

@[expose] public section

noncomputable section

namespace Cert.Same

open Idealize.ShloMosaic Idealize.ShloMosaic.TcCoe Idealize.SL.Sem

variable {F : FTy → Type} [FloatOps F]

set_option maxRecDepth 16384

/-- The two `@main`s are one program, by unfolding; -/
theorem main_eq : Cert.Kernel.main (F := F) = Cert.KernelIdeal.main (F := F) := rfl

/-- so are the two bodies, as the body tables list them; -/
theorem defs₀_eq : Cert.Kernel.defs₀ (F := F) = Cert.KernelIdeal.defs₀ (F := F) := by
  unfold Cert.Kernel.defs₀ Cert.KernelIdeal.defs₀
  congr 1
  funext l
  match l with
  | 0 => rfl

/-- and the two body tables. -/
theorem defs_eq : Cert.Kernel.defs (F := F) = Cert.KernelIdeal.defs (F := F) := by
  unfold Cert.Kernel.defs Cert.KernelIdeal.defs
  exact congrArg (Pipeline.defs Cert.KernelIdeal.pcfgs) defs₀_eq

/-- The kernel's frame: it terminates, its arguments end unchanged and every semaphore counter is at zero. -/
theorem frame : Cert.quiescent_Kernel := by
  intro m g _
  rw [main_eq, defs_eq]
  exact Cert.KernelIdeal.Hand.frame (F := Bits) m g

end Cert.Same

end
-- ==== Proof.Chunk.lean ====
/- What one block of the output computes over the extended reals, entry by entry: every chunk the body stores is, at its
   place in the block, the scaled inner product of a row of the left block and a row of the right block (`cell`). -/
module

public import proofs.«01_k».proof.Proof.Run
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- Entry `(a, b)` of the output block: row `a` of the left block times row `b` of the right block, summed, times the
    left row's scale, times the right row's scale. -/
def cell (x : Vec Ideal S2048x4096 .fp8e4m3) (s : Vec Ideal S2048x1 .f32) (w : Vec Ideal S2048x4096 .fp8e4m3)
    (v : Vec Ideal S1x2048 .f32) (a b : Fin 2048) : EReal :=
  (∑ k : Fin 4096, (x (ix2 a k) : EReal) * w (ix2 b k)) * s (ix2 a 0) * v (ix2 0 b)

/-- Two indices of a matrix with the same row and the same column are one index. -/
theorem idx_ext2 {n0 n1 : ℕ} {i : (⟨2, ![n0, n1]⟩ : Shape).Idx} {a : Fin n0} {b : Fin n1} (h0 : (i 0).val = a.val)
    (h1 : (i 1).val = b.val) : i = ix2 a b := funext fun d => Fin.ext (by
  match d with
  | ⟨0, _⟩ => exact h0
  | ⟨1, _⟩ => exact h1)

/-- A 1024×512 chunk at an entry. -/
theorem chunk_apply (x : Vec Ideal S1024x4096 .fp8e4m3) (w : Vec Ideal S512x4096 .fp8e4m3) (s : Vec Ideal S1024x1 .f32)
    (v : Vec Ideal S1x512 .f32) (a : Fin 1024) (b : Fin 512) :
    chunk x w s v (ix2 a b) = (∑ k : Fin 4096, (x (ix2 a k) : EReal) * w (ix2 b k)) * s (ix2 a 0) * v (ix2 0 b) := by
  pointwise [k0_pay1]

/-- A 1024×256 chunk at an entry. -/
theorem chunkT_apply (x : Vec Ideal S1024x4096 .fp8e4m3) (w : Vec Ideal S256x4096 .fp8e4m3) (s : Vec Ideal S1024x1 .f32)
    (v : Vec Ideal S1x256 .f32) (a : Fin 1024) (b : Fin 256) :
    chunkT x w s v (ix2 a b) = (∑ k : Fin 4096, (x (ix2 a k) : EReal) * w (ix2 b k)) * s (ix2 a 0) * v (ix2 0 b) := by
  pointwise [k0_pay3]

/-- A 1024×512 chunk whose rows start at `r` and whose columns start at `q` holds the block's entries there. -/
theorem chunk_piece (x : Vec Ideal S2048x4096 .fp8e4m3) (s : Vec Ideal S2048x1 .f32) (w : Vec Ideal S2048x4096 .fp8e4m3)
    (v : Vec Ideal S1x2048 .f32) (r q : ℕ) (hx : ∀ a, (![r, 0] : Fin 2 → ℕ) a + S1024x4096.size a ≤ S2048x4096.size a)
    (hs : ∀ a, (![r, 0] : Fin 2 → ℕ) a + S1024x1.size a ≤ S2048x1.size a)
    (hw : ∀ a, (![q, 0] : Fin 2 → ℕ) a + S512x4096.size a ≤ S2048x4096.size a)
    (hv : ∀ a, (![0, q] : Fin 2 → ℕ) a + S1x512.size a ≤ S1x2048.size a)
    (hy : ∀ a, (![r, q] : Fin 2 → ℕ) a + S1024x512.size a ≤ S2048x2048.size a) (j : S1024x512.Idx) :
    chunk (View.ld x (Rect.unit (s := S2048x4096) ![r, 0] S1024x4096.size hx))
        (View.ld w (Rect.unit (s := S2048x4096) ![q, 0] S512x4096.size hw))
        (View.ld s (Rect.unit (s := S2048x1) ![r, 0] S1024x1.size hs))
        (View.ld v (Rect.unit (s := S1x2048) ![0, q] S1x512.size hv)) j
      = cell x s w v ((Rect.unit (s := S2048x2048) ![r, q] S1024x512.size hy).emb j 0)
          ((Rect.unit (s := S2048x2048) ![r, q] S1024x512.size hy).emb j 1) := by
  obtain ⟨a, b, rfl⟩ : ∃ a b, j = ix2 a b := ⟨_, _, eq_ix2 j⟩
  refine (chunk_apply _ _ _ _ a b).trans ?_
  have ex : ∀ k : Fin 4096, (Rect.unit (s := S2048x4096) ![r, 0] S1024x4096.size hx).idx (ix2 a k)
      = ix2 ((Rect.unit (s := S2048x2048) ![r, q] S1024x512.size hy).emb (ix2 a b) 0) k := fun k =>
    idx_ext2 rfl (by change 0 + 1 * k.val = k.val; omega)
  have ew : ∀ k : Fin 4096, (Rect.unit (s := S2048x4096) ![q, 0] S512x4096.size hw).idx (ix2 b k)
      = ix2 ((Rect.unit (s := S2048x2048) ![r, q] S1024x512.size hy).emb (ix2 a b) 1) k := fun k =>
    idx_ext2 rfl (by change 0 + 1 * k.val = k.val; omega)
  have es : (Rect.unit (s := S2048x1) ![r, 0] S1024x1.size hs).idx (ix2 a 0)
      = ix2 ((Rect.unit (s := S2048x2048) ![r, q] S1024x512.size hy).emb (ix2 a b) 0) 0 := idx_ext2 rfl rfl
  have ev : (Rect.unit (s := S1x2048) ![0, q] S1x512.size hv).idx (ix2 0 b)
      = ix2 0 ((Rect.unit (s := S2048x2048) ![r, q] S1024x512.size hy).emb (ix2 a b) 1) := idx_ext2 rfl rfl
  unfold cell View.ld
  rw [es, ev]
  simp only [ex, ew]
  rfl

/-- A 1024×256 chunk likewise. -/
theorem chunkT_piece (x : Vec Ideal S2048x4096 .fp8e4m3) (s : Vec Ideal S2048x1 .f32) (w : Vec Ideal S2048x4096 .fp8e4m3)
    (v : Vec Ideal S1x2048 .f32) (r q : ℕ) (hx : ∀ a, (![r, 0] : Fin 2 → ℕ) a + S1024x4096.size a ≤ S2048x4096.size a)
    (hs : ∀ a, (![r, 0] : Fin 2 → ℕ) a + S1024x1.size a ≤ S2048x1.size a)
    (hw : ∀ a, (![q, 0] : Fin 2 → ℕ) a + S256x4096.size a ≤ S2048x4096.size a)
    (hv : ∀ a, (![0, q] : Fin 2 → ℕ) a + S1x256.size a ≤ S1x2048.size a)
    (hy : ∀ a, (![r, q] : Fin 2 → ℕ) a + S1024x256.size a ≤ S2048x2048.size a) (j : S1024x256.Idx) :
    chunkT (View.ld x (Rect.unit (s := S2048x4096) ![r, 0] S1024x4096.size hx))
        (View.ld w (Rect.unit (s := S2048x4096) ![q, 0] S256x4096.size hw))
        (View.ld s (Rect.unit (s := S2048x1) ![r, 0] S1024x1.size hs))
        (View.ld v (Rect.unit (s := S1x2048) ![0, q] S1x256.size hv)) j
      = cell x s w v ((Rect.unit (s := S2048x2048) ![r, q] S1024x256.size hy).emb j 0)
          ((Rect.unit (s := S2048x2048) ![r, q] S1024x256.size hy).emb j 1) := by
  obtain ⟨a, b, rfl⟩ : ∃ a b, j = ix2 a b := ⟨_, _, eq_ix2 j⟩
  refine (chunkT_apply _ _ _ _ a b).trans ?_
  have ex : ∀ k : Fin 4096, (Rect.unit (s := S2048x4096) ![r, 0] S1024x4096.size hx).idx (ix2 a k)
      = ix2 ((Rect.unit (s := S2048x2048) ![r, q] S1024x256.size hy).emb (ix2 a b) 0) k := fun k =>
    idx_ext2 rfl (by change 0 + 1 * k.val = k.val; omega)
  have ew : ∀ k : Fin 4096, (Rect.unit (s := S2048x4096) ![q, 0] S256x4096.size hw).idx (ix2 b k)
      = ix2 ((Rect.unit (s := S2048x2048) ![r, q] S1024x256.size hy).emb (ix2 a b) 1) k := fun k =>
    idx_ext2 rfl (by change 0 + 1 * k.val = k.val; omega)
  have es : (Rect.unit (s := S2048x1) ![r, 0] S1024x1.size hs).idx (ix2 a 0)
      = ix2 ((Rect.unit (s := S2048x2048) ![r, q] S1024x256.size hy).emb (ix2 a b) 0) 0 := idx_ext2 rfl rfl
  have ev : (Rect.unit (s := S1x2048) ![0, q] S1x256.size hv).idx (ix2 0 b)
      = ix2 0 ((Rect.unit (s := S2048x2048) ![r, q] S1024x256.size hy).emb (ix2 a b) 1) := idx_ext2 rfl rfl
  unfold cell View.ld
  rw [es, ev]
  simp only [ex, ew]
  rfl

/-- Every store of the body, at any grid point, holds the block's entries at its place. -/
theorem pieces_cell (i : grid0.Coords) (x : Vec Ideal S2048x4096 .fp8e4m3) (s : Vec Ideal S2048x1 .f32)
    (w : Vec Ideal S2048x4096 .fp8e4m3) (v : Vec Ideal S1x2048 .f32) :
    ∀ p ∈ pieces i x s w v, ∀ j : p.1.shape.Idx, p.2 j = cell x s w v (p.1.emb j 0) (p.1.emb j 1) := by
  unfold pieces main_pieces tail_pieces
  split <;> simp only [List.forall_mem_cons, List.not_mem_nil, false_implies, implies_true, and_true]
  · exact ⟨chunk_piece x s w v 1024 1536 _ _ _ _ _, chunk_piece x s w v 1024 1024 _ _ _ _ _,
      chunk_piece x s w v 1024 512 _ _ _ _ _, chunk_piece x s w v 1024 0 _ _ _ _ _,
      chunk_piece x s w v 0 1536 _ _ _ _ _, chunk_piece x s w v 0 1024 _ _ _ _ _,
      chunk_piece x s w v 0 512 _ _ _ _ _, chunk_piece x s w v 0 0 _ _ _ _ _⟩
  · exact ⟨chunkT_piece x s w v 1024 512 _ _ _ _ _, chunk_piece x s w v 1024 0 _ _ _ _ _,
      chunkT_piece x s w v 0 512 _ _ _ _ _, chunk_piece x s w v 0 0 _ _ _ _ _⟩

end Cert.KernelIdeal.Hand

end
-- ==== Proof.Array.lean ====
/- What the kernel's output array holds after the run, over the extended reals: entry `(i, n)` is the scaled inner product
   of row `i` of the left array and row `n` of the right array (`lin`), at every index of the array. -/
module

public import proofs.«01_k».proof.Proof.Chunk
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window)

variable (m : (ℓ : Loc nD τ sig) → Buf (Elt Ideal) ℓ)

/-- Entry `(i, n)` of the output array: row `i` of the left array times row `n` of the right array, summed, times the
    left row's scale, times the right row's scale. -/
def lin (X : Vec Ideal S12288x4096 .fp8e4m3) (S : Vec Ideal S12288x1 .f32) (W : Vec Ideal S11008x4096 .fp8e4m3)
    (V : Vec Ideal S1x11008 .f32) (i : Fin 12288) (n : Fin 11008) : EReal :=
  (∑ k : Fin 4096, (X (ix2 i k) : EReal) * W (ix2 n k)) * S (ix2 i 0) * V (ix2 0 n)

/-! ## Which block a grid point takes of each array -/

theorem index0 : ∀ t : Fin cfg0.N, win0_0.index t 0 = win0_4.index t 0 ∧ win0_0.index t 1 = 0 :=
  (by decide +kernel : ∀ t : Fin grid0.N, _)
theorem index1 : ∀ t : Fin cfg0.N, win0_1.index t 0 = win0_4.index t 0 ∧ win0_1.index t 1 = 0 :=
  (by decide +kernel : ∀ t : Fin grid0.N, _)
theorem index2 : ∀ t : Fin cfg0.N, win0_2.index t 0 = win0_4.index t 1 ∧ win0_2.index t 1 = 0 :=
  (by decide +kernel : ∀ t : Fin grid0.N, _)
theorem index3 : ∀ t : Fin cfg0.N, win0_3.index t 0 = 0 ∧ win0_3.index t 1 = win0_4.index t 1 :=
  (by decide +kernel : ∀ t : Fin grid0.N, _)

/-! ## The input buffers, entry by entry -/

/-- The left operand's buffer holds the rows of the left array that the output block's rows name. -/
theorem xbuf_apply (c : Dev nD) (t : Fin cfg0.N) (a : Fin 2048) (k : Fin 4096) (i : Fin 12288)
    (hi : i.val = win0_4.index t 0 * 2048 + a.val) :
    iblk m c 0 t (ix2 a k) = V m c main_v0 (ix2 i k) := by
  refine congrArg (V m c main_v0) (idx_ext2 ?_ ?_)
  · refine (win0_0.rect_emb_val t (ix2 a k) 0 rfl).trans ?_
    rw [(index0 t).1]; exact hi.symm
  · refine (win0_0.rect_emb_val t (ix2 a k) 1 rfl).trans ?_
    rw [(index0 t).2, Nat.zero_mul, Nat.zero_add]; rfl

/-- Its scales' buffer likewise. -/
theorem sbuf_apply (c : Dev nD) (t : Fin cfg0.N) (a : Fin 2048) (i : Fin 12288)
    (hi : i.val = win0_4.index t 0 * 2048 + a.val) :
    iblk m c 1 t (ix2 a 0) = V m c main_v1 (ix2 i 0) := by
  refine congrArg (V m c main_v1) (idx_ext2 ?_ ?_)
  · refine (win0_1.rect_emb_val t (ix2 a 0) 0 rfl).trans ?_
    rw [(index1 t).1]; exact hi.symm
  · refine (win0_1.rect_emb_val t (ix2 a 0) 1 rfl).trans ?_
    rw [(index1 t).2, Nat.zero_mul, Nat.zero_add]; rfl

/-- The right operand's buffer holds, in its rows inside the array, the rows that the output block's columns name. -/
theorem wbuf_apply (c : Dev nD) (t : Fin cfg0.N) (b : Fin 2048) (k : Fin 4096) (n : Fin 11008)
    (hb : b.val < if (grid0.coords t 1).val < 5 then 2048 else 768) (hn : n.val = win0_4.index t 1 * 2048 + b.val) :
    wbuf m c t (ix2 b k) = V m c main_arg2 (ix2 n k) := by
  have hmv : win0_2.moved (grid0.coords t) (ix2 b k) = true := (win0_2.moved_iff _ _).mpr fun a => by
    match a with
    | ⟨0, _⟩ => exact lt_of_lt_of_eq hb (xsize2 t).1.symm
    | ⟨1, _⟩ => exact lt_of_lt_of_eq k.isLt (xsize2 t).2.symm
  unfold wbuf Window.fill
  rw [dif_pos hmv]
  refine congrArg (V m c main_arg2) (idx_ext2 ?_ ?_)
  · refine (win0_2.rect_emb_val t _ 0 rfl).trans ?_
    rw [(index2 t).1]; exact hn.symm
  · refine (win0_2.rect_emb_val t _ 1 rfl).trans ?_
    rw [(index2 t).2, Nat.zero_mul, Nat.zero_add]; rfl

/-- Its scales' buffer likewise. -/
theorem vbuf_apply (c : Dev nD) (t : Fin cfg0.N) (b : Fin 2048) (n : Fin 11008)
    (hb : b.val < if (grid0.coords t 1).val < 5 then 2048 else 768) (hn : n.val = win0_4.index t 1 * 2048 + b.val) :
    vbuf m c t (ix2 0 b) = V m c main_v2 (ix2 0 n) := by
  have hmv : win0_3.moved (grid0.coords t) (ix2 0 b) = true := (win0_3.moved_iff _ _).mpr fun a => by
    match a with
    | ⟨0, _⟩ => exact lt_of_lt_of_eq Nat.zero_lt_one (xsize3 t).1.symm
    | ⟨1, _⟩ => exact lt_of_lt_of_eq hb (xsize3 t).2.symm
  unfold vbuf Window.fill
  rw [dif_pos hmv]
  refine congrArg (V m c main_v2) (idx_ext2 ?_ ?_)
  · refine (win0_3.rect_emb_val t _ 0 rfl).trans ?_
    rw [(index3 t).1, Nat.zero_mul, Nat.zero_add]; rfl
  · refine (win0_3.rect_emb_val t _ 1 rfl).trans ?_
    rw [(index3 t).2]; exact hn.symm

/-! ## The array -/

/-- The output's buffer holds its block's entries wherever the block lies inside the array. -/
theorem ybuf_apply (c : Dev nD) (t : Fin cfg0.N) (j : (win0_4.xblock (grid0.coords t)).Idx) :
    ybuf m c t (win0_4.xinj (grid0.coords t) j)
      = cell (iblk m c 0 t) (iblk m c 1 t) (wbuf m c t) (vbuf m c t) (win0_4.xinj (grid0.coords t) j 0)
          (win0_4.xinj (grid0.coords t) j 1) := by
  have hp := pieces_cell (grid0.coords t) (iblk m c 0 t) (iblk m c 1 t) (wbuf m c t) (vbuf m c t)
  have hc := cover_moved t (iblk m c 0 t) (iblk m c 1 t) (wbuf m c t) (vbuf m c t) j
  let G : S2048x2048.Idx → Elt Ideal .bf16 := fun y =>
    cell (iblk m c 0 t) (iblk m c 1 t) (wbuf m c t) (vbuf m c t) (y 0) (y 1)
  exact View.canon_apply_of_pieces G _ hp _ hc

/-- The array after the run. -/
theorem array_eq (c : Dev nD) : (dats m 0 c).arrAt 4 cfg0.N
    = fun i : S12288x11008.Idx => lin (V m c main_v0) (V m c main_v1) (V m c main_arg2) (V m c main_v2) (i 0) (i 1) := by
  refine (dats m 0 c).arrAt_eq_of_covers 4 _ (by decide +kernel) fun t hf y => ?_
  rw [after0_4]
  refine (ybuf_apply m c t y).trans ?_
  have h0 : ((((cfg0.win 4).blk t).view.emb y : S12288x11008.Idx) 0).val = win0_4.index t 0 * 2048 + (y 0).val :=
    win0_4.rect_emb_val t y 0 rfl
  have h1 : ((((cfg0.win 4).blk t).view.emb y : S12288x11008.Idx) 1).val = win0_4.index t 1 * 2048 + (y 1).val :=
    win0_4.rect_emb_val t y 1 rfl
  have hb : (y 1).val < if (grid0.coords t 1).val < 5 then 2048 else 768 := lt_of_lt_of_eq (y 1).isLt (xsize4 t).2
  unfold cell lin
  refine congrArg₂ _ (congrArg₂ _ (Finset.sum_congr rfl fun k _ => congrArg₂ _ ?_ ?_) ?_) ?_
  · exact xbuf_apply m c t _ k _ h0
  · exact wbuf_apply m c t _ k _ hb h1
  · exact sbuf_apply m c t _ _ h0
  · exact vbuf_apply m c t _ _ hb h1

end Cert.KernelIdeal.Hand

end
-- ==== Proof.Host.lean ====
/- The reshapes around the kernel call, and the whole run over the extended reals: the three reshaped operands the call
   finds, the reshaped result it leaves, and the result entry by entry (`out_apply`). -/
module

public import proofs.«01_k».proof.Proof.Array

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg)

/-- The call finds the activations with their two leading axes merged, -/
theorem V_main_v0 (c : Dev nD) : (V m c main_v0 : Vec Ideal S12288x4096 .fp8e4m3)
    = shapeCast S12288x4096 (m ((c : Thread nD τ).loc main_arg0) : Vec Ideal S3x4096x4096 .fp8e4m3) shapeCasts_S3x4096x4096_S12288x4096 := by
  entry_read
  rfl

/-- their scales likewise, -/
theorem V_main_v1 (c : Dev nD) : (V m c main_v1 : Vec Ideal S12288x1 .f32)
    = shapeCast S12288x1 (m ((c : Thread nD τ).loc main_arg1) : Vec Ideal S3x4096x1 .f32) shapeCasts_S3x4096x1_S12288x1 := by
  entry_read
  rfl

/-- and the weights' scales as a row. -/
theorem V_main_v2 (c : Dev nD) : (V m c main_v2 : Vec Ideal S1x11008 .f32)
    = shapeCast S1x11008 (m ((c : Thread nD τ).loc main_arg3) : Vec Ideal S11008 .f32) shapeCasts_S11008_S1x11008 := by
  entry_read
  rfl

/-- The result after the run: the call's output array with its rows split back in two axes. -/
def out (c : Dev nD) : Vec Ideal S3x4096x11008 .bf16 :=
  shapeCast S3x4096x11008
    (fun i : S12288x11008.Idx => lin (V m c main_v0) (V m c main_v1) (V m c main_arg2) (V m c main_v2) (i 0) (i 1) :
      Vec Ideal S12288x11008 .bf16) shapeCasts_S12288x11008_S3x4096x11008

/-- The host line after the call reads the call's output array and nothing else. -/
theorem tail_main_v4 (c : Dev nD) : Pipeline.afterTail₀ cfgs (dats m) 0 (V0 m) [hostOps1] c main_v4 = out m c := by
  have harr := Pipeline.withArrays_arr spec0 launch0.win.arr_inj c (V0 m c) (fun w => (dats m 0 c).arrAt w cfg0.N) 4
  rw [array_eq] at harr
  unfold Pipeline.afterTail₀ out
  rw [← harr]
  after_results
  rfl

/-- The run: the result at `out`, the arguments unchanged. -/
theorem run : θ_run defs (onTc (τ := τ) (main (F := Ideal))) ⟨m, fun _ => 0, ρ⟩ (fun r => ∀ c : Dev nD,
      r.2.mem ((c.tc : Thread nD τ).loc main_v4) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
      ⟨((h.1.1 c).2 main_v4 (Pipeline.mem_restRefs_of main_v4 (by decide) (by decide))).trans (tail_main_v4 m c), h.2.1 c⟩)
    (θ_run_and (run_quiescent m ρ) (frame m ρ))

/-- Entry `(b, s, n)` of the layer's result: row `(b, s)` of the activations times row `n` of the weights, summed, times
    the activations row's scale, times the weights row's scale. -/
def entry (x : Vec Ideal S3x4096x4096 .fp8e4m3) (xs : Vec Ideal S3x4096x1 .f32) (w : Vec Ideal S11008x4096 .fp8e4m3)
    (ws : Vec Ideal S11008 .f32) (b : Fin 3) (s : Fin 4096) (n : Fin 11008) : EReal :=
  (∑ k : Fin 4096, (x (ix3 b s k) : EReal) * w (ix2 n k)) * xs (ix3 b s 0) * ws (ix1 n)

/-- The merged row and column of an entry, under the three reshapes, are the entry's own. -/
theorem reshapes_apply (x : Vec Ideal S3x4096x4096 .fp8e4m3) (xs : Vec Ideal S3x4096x1 .f32) (w : Vec Ideal S11008x4096 .fp8e4m3)
    (ws : Vec Ideal S11008 .f32) (b : Fin 3) (s : Fin 4096) (n : Fin 11008) :
    (shapeCast S3x4096x11008
      (fun i : S12288x11008.Idx => lin (shapeCast S12288x4096 x shapeCasts_S3x4096x4096_S12288x4096)
        (shapeCast S12288x1 xs shapeCasts_S3x4096x1_S12288x1) w (shapeCast S1x11008 ws shapeCasts_S11008_S1x11008) (i 0) (i 1) :
        Vec Ideal S12288x11008 .bf16) shapeCasts_S12288x11008_S3x4096x11008 : Vec Ideal S3x4096x11008 .bf16) (ix3 b s n)
      = entry x xs w ws b s n := by
  have hb : ∀ h, (⟨(b.val * 4096 + s.val) / 4096, h⟩ : Fin 3) = b := fun _ => Fin.ext (by
    have := s.isLt; change (b.val * 4096 + s.val) / 4096 = b.val; omega)
  have hs : ∀ h, (⟨(b.val * 4096 + s.val) % 4096, h⟩ : Fin 4096) = s := fun _ => Fin.ext (by
    have := s.isLt; change (b.val * 4096 + s.val) % 4096 = s.val; omega)
  pointwise [lin, entry]
  simp only [hb, hs]

/-- The result at an entry, of the arguments. -/
theorem out_apply (c : Dev nD) (b : Fin 3) (s : Fin 4096) (n : Fin 11008) :
    out m c (ix3 b s n) = entry (m ((c : Thread nD τ).loc main_arg0)) (m ((c : Thread nD τ).loc main_arg1))
      (m ((c : Thread nD τ).loc main_arg2)) (m ((c : Thread nD τ).loc main_arg3)) b s n := by
  unfold out
  rw [V_main_v0, V_main_v1, V_main_v2, V_main_arg2]
  exact reshapes_apply _ _ _ _ b s n

end Cert.KernelIdeal.Hand

end
-- ==== Proof.Ref.lean ====
/- What the reference computes over the extended reals, entry by entry: `(b, s, n)` of the result is row `(b, s)` of the
   activations times row `n` of the weights, summed, times the two rows' scales. -/
module

public import proofs.«01_k».proof.Proof.Gen.ReferenceIdeal.Value
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-- The reference's result at an entry. -/
theorem ref_apply (x : Vec Ideal S3x4096x4096 .fp8e4m3) (xs : Vec Ideal S3x4096x1 .f32) (w : Vec Ideal S11008x4096 .fp8e4m3)
    (ws : Vec Ideal S11008 .f32) (b : Fin 3) (s : Fin 4096) (n : Fin 11008) :
    Value.G4 x xs w ws (ix3 b s n)
      = (∑ k : Fin 4096, (x (ix3 b s k) : EReal) * w (ix2 n k)) * xs (ix3 b s 0) * ws (ix1 n) := by
  pointwise [k0_pay1]

end Cert.ReferenceIdeal.Hand

end
-- ==== Proof.Equation.lean ====
/- The algebraic claim: over the extended reals the kernel and the reference end with the same result, entry by entry. -/
module

public import proofs.«01_k».proof.Defs
public import proofs.«01_k».proof.Proof.Host
public import proofs.«01_k».proof.Proof.Ref

@[expose] public section

set_option maxRecDepth 16384

noncomputable section

namespace Cert.Equation

open Idealize.ShloMosaic Idealize.ShloMosaic.TcCoe Idealize.SL.Sem

/-- The kernel's result, from any arguments, is the reference's result from the same arguments. -/
theorem out_eq (m : (ℓ : Loc KernelIdeal.nD KernelIdeal.τ KernelIdeal.sig) → Buf (Elt Ideal) ℓ) (c : Dev KernelIdeal.nD) :
    KernelIdeal.Hand.out m c
      = ReferenceIdeal.Value.G4 (m ((c.tc : Thread _ _).loc KernelIdeal.main_arg0)) (m ((c.tc : Thread _ _).loc KernelIdeal.main_arg1))
          (m ((c.tc : Thread _ _).loc KernelIdeal.main_arg2)) (m ((c.tc : Thread _ _).loc KernelIdeal.main_arg3)) := by
  funext i
  obtain ⟨b, s, n, rfl⟩ : ∃ b s n, i = ix3 b s n := ⟨_, _, _, eq_ix3 i⟩
  exact (KernelIdeal.Hand.out_apply m c b s n).trans (ReferenceIdeal.Hand.ref_apply _ _ _ _ b s n).symm

/-- From memories that agree on the four arguments, both programs run to their ends, end with the same result and leave
    their arguments unchanged. -/
theorem algebraic : algebraic_KernelIdeal_ReferenceIdeal := fun m g m' g' _ hagree =>
  ⟨KernelIdeal.Hand.out m, KernelIdeal.Hand.run m g,
    (θ_run ReferenceIdeal.defs _ _).mono (fun r h c => by
      obtain ⟨h0, hargs⟩ := h c
      obtain ⟨e0, e1, e2, e3⟩ := hagree c
      refine ⟨h0.trans ?_, hargs⟩
      rw [e0, e1, e2, e3]
      exact (out_eq m c).symm) (ReferenceIdeal.Value.run m' g')⟩

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Same.frame,
    fun m ρ _ => Cert.KernelIdeal.Hand.frame m ρ, fun m ρ _ => Cert.ReferenceIdeal.Gen.frame m ρ, trivial, Cert.Equation.algebraic⟩

end Cert.Proof

end
